-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S4096x7 : Shape := ⟨2, ![4096, 7]⟩
abbrev S1024x64 : Shape := ⟨2, ![1024, 64]⟩
abbrev S1024x7 : Shape := ⟨2, ![1024, 7]⟩
abbrev S1024x4096 : Shape := ⟨2, ![1024, 4096]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 23
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x64, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x64, .f32⟩
  | .hbm, ⟨21, _⟩ => ⟨S4096x64, .f32⟩
  | .hbm, ⟨22, _⟩ => ⟨S4096x7, .i32⟩
  | .local _ .vmem, ⟨0, _⟩ => ⟨S1024x64, .f32⟩
  | .local _ .vmem, ⟨1, _⟩ => ⟨S1024x64, .f32⟩
  | .local _ .vmem, ⟨2, _⟩ => ⟨S4096x64, .f32⟩
  | .local _ .vmem, ⟨3, _⟩ => ⟨S1024x64, .f32⟩
  | .local _ .vmem, ⟨4, _⟩ => ⟨S1024x64, .f32⟩
  | .local _ .vmem, ⟨5, _⟩ => ⟨S1024x7, .i32⟩
  | .local _ .vmem, ⟨6, _⟩ => ⟨S1024x7, .i32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x7 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S64x4096 : Shape := ⟨2, ![64, 4096]⟩
abbrev S4096x4096 : Shape := ⟨2, ![4096, 4096]⟩
abbrev S4096x2 : Shape := ⟨2, ![4096, 2]⟩
abbrev S4096x7 : Shape := ⟨2, ![4096, 7]⟩

abbrev nBuf : Space → Nat
  | .hbm => 72
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S4096x64, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x64, .f32⟩
  | .hbm, ⟨11, _⟩ => ⟨S4096x64, .f32⟩
  | .hbm, ⟨12, _⟩ => ⟨S4096x64, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x64, .f32⟩
  | .hbm, ⟨21, _⟩ => ⟨S4096x64, .f32⟩
  | .hbm, ⟨22, _⟩ => ⟨S64x4096, .f32⟩
  | .hbm, ⟨23, _⟩ => ⟨S4096x4096, .f32⟩
  | .hbm, ⟨24, _⟩ => ⟨S4096x4096, .i32⟩
  | .hbm, ⟨25, _⟩ => ⟨S4096x4096, .i32⟩
  | .hbm, ⟨26, _⟩ => ⟨S_, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S4096x1, .i32⟩
  | .hbm, ⟨47, _⟩ => ⟨S4096x2, .i32⟩
  | .hbm, ⟨48, _⟩ => ⟨S4096, .f32⟩
  | .hbm, ⟨49, _⟩ => ⟨S4096x1, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096x4096, .f32⟩
  | .hbm, ⟨54, _⟩ => ⟨S4096x4096, .f32⟩
  | .hbm, ⟨55, _⟩ => ⟨S4096x4096, .i1⟩
  | .hbm, ⟨56, _⟩ => ⟨S_, .f32⟩
  | .hbm, ⟨57, _⟩ => ⟨S_, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096x4096, .f32⟩
  | .hbm, ⟨62, _⟩ => ⟨S4096x4096, .i1⟩
  | .hbm, ⟨63, _⟩ => ⟨S_, .f32⟩
  | .hbm, ⟨64, _⟩ => ⟨S_, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .i32⟩
  | .hbm, ⟨69, _⟩ => ⟨S4096x4096, .f32⟩
  | .hbm, ⟨70, _⟩ => ⟨S4096x4096, .i32⟩
  | .hbm, ⟨71, _⟩ => ⟨S4096x7, .i32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_v25 : Ref sig .tc := ⟨.hbm, 33, rfl⟩
abbrev main_c_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_5 : Ref sig .tc := ⟨.hbm, 38, rfl⟩
abbrev main_v29 : Ref sig .tc := ⟨.hbm, 39, rfl⟩
abbrev main_v30 : Ref sig .tc := ⟨.hbm, 40, rfl⟩
abbrev main_c_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_8 : Ref sig .tc := ⟨.hbm, 56, rfl⟩
abbrev main_call0_v0 : Ref sig .tc := ⟨.hbm, 57, rfl⟩
abbrev main_call0_v1 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_call1_v0 : Ref sig .tc := ⟨.hbm, 64, rfl⟩
abbrev main_call1_v1 : Ref sig .tc := ⟨.hbm, 65, rfl⟩
abbrev main_v47 : Ref sig .tc := ⟨.hbm, 66, rfl⟩
abbrev main_v48 : Ref sig .tc := ⟨.hbm, 67, rfl⟩
abbrev main_call2_v0 : Ref sig .tc := ⟨.hbm, 68, rfl⟩
abbrev main_call2_v1_0 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Proof.Pick.lean ====
/-
  Picking the largest entries of a row one by one, against a stable descending sort of the row.

  A round takes the largest entry of the row, the least position that holds it, and overwrites that position with a low
  value. `struck L b v q` is the row after `q` rounds, `seq L b v q` the position round `q` picks. When the low value is
  below every entry, the first `K` picks are the first `K` positions of the stable sort by descending entry
  (`sortedFrom_eq_seq`): equal entries keep the order of their positions in both.
-/
module

public import Mathlib.Data.EReal.Basic
public import Mathlib.Data.EReal.Operations
public import Idealize.ShloMosaic.Lib.SortPrefix

@[expose] public section

noncomputable section

namespace Cert.Miner

open Idealize.ShloMosaic

/-! ## A stable sort by a key that may repeat -/

section Stable

variable {n : ℕ}

/-- Inserting a position below all positions of a list places it the same under two orders that agree on every pair of a
    listed position and the inserted one. -/
theorem insertBefore_congr (B B' : Fin n → Fin n → Bool) (a : Fin n) (l : List (Fin n)) (h : ∀ b ∈ l, B b a = B' b a) :
    insertBefore B a l = insertBefore B' a l := by
  induction l with
  | nil => rfl
  | cons b l ih =>
    unfold insertBefore
    rw [h b List.mem_cons_self, ih fun x hx => h x (List.mem_cons_of_mem _ hx)]

/-- Two orders that agree on every pair "later position, earlier position" stably sort an ascending list alike. -/
theorem stableSort_congr (B B' : Fin n → Fin n → Bool) (h : ∀ a b, a < b → B b a = B' b a) (l : List (Fin n))
    (hl : l.Pairwise (· < ·)) : stableSort B l = stableSort B' l := by
  induction l with
  | nil => rfl
  | cons a l ih =>
    obtain ⟨ha, hl'⟩ := List.pairwise_cons.mp hl
    unfold stableSort
    rw [ih hl']
    exact insertBefore_congr B B' a _ fun b hb => h a b (ha b ((perm_stableSort B' l).mem_iff.mp hb))

/-- So the stable sort of the positions depends only on how the order compares a later position with an earlier one. -/
theorem sortedFrom_congr (B B' : Fin n → Fin n → Bool) (h : ∀ a b, a < b → B b a = B' b a) (k : Fin n) :
    sortedFrom B k = sortedFrom B' k := by
  have e : sortPositions n B = sortPositions n B' := stableSort_congr B B' h _ (List.pairwise_lt_finRange n)
  unfold sortedFrom
  simp only [List.get_eq_getElem, Fin.val_cast, e]

end Stable

/-! ## One round on a row -/

section Row

variable {n : ℕ}

/-- The position as an extended real. -/
def pos (k : Fin n) : EReal := ((k.val : ℝ) : EReal)

/-- Positions compare as extended reals as they do as numbers. -/
theorem pos_le_pos {a b : Fin n} : pos a ≤ pos b ↔ a ≤ b := by
  rw [pos, pos, EReal.coe_le_coe_iff, Nat.cast_le]
  exact Iff.rfl

/-- Two positions equal as extended reals are the same position. -/
theorem pos_inj {a b : Fin n} : pos a = pos b ↔ a = b := by
  simp [pos, Fin.ext_iff]

/-- The largest entry of a row. -/
def rowMax (v : Fin n → EReal) : EReal := Finset.univ.fold max ⊥ v

/-- The least position that holds the largest entry, as an extended real; `b` stands for the positions that do not. -/
def rowIdx (b : EReal) (v : Fin n → EReal) : EReal :=
  Finset.univ.fold min ⊤ fun k => if v k = rowMax v then pos k else b

/-- The row with the low value `L` at the position `i`. -/
def strike (L : EReal) (i : EReal) (v : Fin n → EReal) : Fin n → EReal := fun k => if pos k = i then L else v k

/-- The row after `q` rounds. -/
def struck (L b : EReal) (v : Fin n → EReal) : ℕ → Fin n → EReal
  | 0 => v
  | q + 1 => strike L (rowIdx b (struck L b v q)) (struck L b v q)

/-- `p` is the first position of a largest entry. -/
def IsPick (v : Fin n → EReal) (p : Fin n) : Prop := (∀ k, v k ≤ v p) ∧ ∀ k, k < p → v k < v p

/-- A row with an entry has a first position of a largest entry. -/
theorem exists_pick [NeZero n] (v : Fin n → EReal) : ∃ p, IsPick v p := by
  classical
  obtain ⟨m, -, hm⟩ := Finset.exists_max_image (Finset.univ : Finset (Fin n)) v ⟨0, Finset.mem_univ _⟩
  let S : Finset (Fin n) := Finset.univ.filter fun p => ∀ k, v k ≤ v p
  have hS : S.Nonempty := ⟨m, Finset.mem_filter.mpr ⟨Finset.mem_univ _, fun k => hm k (Finset.mem_univ _)⟩⟩
  have hp : ∀ k, v k ≤ v (S.min' hS) := (Finset.mem_filter.mp (S.min'_mem hS)).2
  refine ⟨S.min' hS, hp, fun k hk => ?_⟩
  by_contra hc
  have hkS : k ∈ S := Finset.mem_filter.mpr ⟨Finset.mem_univ _, fun x => (hp x).trans (not_lt.mp hc)⟩
  exact absurd (S.min'_le k hkS) (not_le.mpr hk)

/-- The largest entry is the entry at its first position. -/
theorem rowMax_eq {v : Fin n → EReal} {p : Fin n} (hp : IsPick v p) : rowMax v = v p := by
  refine le_antisymm ?_ ?_
  · exact Finset.fold_max_le (v p) |>.mpr ⟨bot_le, fun k _ => hp.1 k⟩
  · exact Finset.le_fold_max (v p) |>.mpr (Or.inr ⟨p, Finset.mem_univ _, le_rfl⟩)

/-- The round's index is the first position of a largest entry, provided that the stand-in is above every position. -/
theorem rowIdx_eq {b : EReal} (hb : ∀ k : Fin n, pos k ≤ b) {v : Fin n → EReal} {p : Fin n} (hp : IsPick v p) :
    rowIdx b v = pos p := by
  unfold rowIdx
  rw [rowMax_eq hp]
  refine le_antisymm ?_ ?_
  · exact Finset.fold_min_le (pos p) |>.mpr (Or.inr ⟨p, Finset.mem_univ _, by simp⟩)
  · refine Finset.le_fold_min (pos p) |>.mpr ⟨le_top, fun k _ => ?_⟩
    split
    · next h => exact pos_le_pos.mpr (not_lt.mp fun hk => absurd h (ne_of_lt (hp.2 k hk)))
    · exact hb p

variable [NeZero n] (L b : EReal) (v : Fin n → EReal)

/-- The position that round `q` picks. -/
def seq (q : ℕ) : Fin n := (exists_pick (struck L b v q)).choose

/-- It is the first position of a largest entry of the row after `q` rounds. -/
theorem seq_isPick (q : ℕ) : IsPick (struck L b v q) (seq L b v q) := (exists_pick (struck L b v q)).choose_spec

variable {L b v}

/-- The index that round `q` computes is the position it picks. -/
theorem rowIdx_struck (hb : ∀ k : Fin n, pos k ≤ b) (q : ℕ) : rowIdx b (struck L b v q) = pos (seq L b v q) :=
  rowIdx_eq hb (seq_isPick L b v q)

/-- After `q` rounds the picked positions hold the low value and the others their own entry. -/
theorem struck_apply (hb : ∀ k : Fin n, pos k ≤ b) (q : ℕ) (k : Fin n) :
    ((∃ j < q, seq L b v j = k) → struck L b v q k = L) ∧ ((∀ j < q, seq L b v j ≠ k) → struck L b v q k = v k) := by
  induction q with
  | zero => exact ⟨fun ⟨j, hj, _⟩ => absurd hj (Nat.not_lt_zero j), fun _ => rfl⟩
  | succ q ih =>
    have e : struck L b v (q + 1) k = if k = seq L b v q then L else struck L b v q k := by
      show (if pos k = rowIdx b (struck L b v q) then L else struck L b v q k) = _
      rw [rowIdx_struck hb]
      simp only [pos_inj]
    rw [e]
    refine ⟨fun ⟨j, hj, hjk⟩ => ?_, fun h => ?_⟩
    · split
      · rfl
      · next hk =>
        have hjq : j ≠ q := fun h => hk (by rw [← hjk, h])
        exact ih.1 ⟨j, by omega, hjk⟩
    · rw [if_neg fun hk => h q (Nat.lt_succ_self q) hk.symm]
      exact ih.2 fun j hj => h j (Nat.lt_succ_of_lt hj)

/-- A position that no earlier round picked is not before round `q`'s pick: its entry is no larger, and smaller where
    the position is lower. Round `q` itself picks a position that no earlier round picked. -/
theorem seq_dominates (hb : ∀ k : Fin n, pos k ≤ b) (hL : ∀ k, L < v k) (q : ℕ) (hq : q < n) :
    (∀ j < q, seq L b v j ≠ seq L b v q)
      ∧ ∀ p, (∀ j < q, seq L b v j ≠ p) → v p ≤ v (seq L b v q) ∧ (p < seq L b v q → v p < v (seq L b v q)) := by
  classical
  have hpk := seq_isPick L b v q
  have hfree : ∃ k : Fin n, ∀ j < q, seq L b v j ≠ k := by
    by_contra hc
    have hsub : (Finset.univ : Finset (Fin n)) ⊆ (Finset.range q).image fun j => seq L b v j := fun k _ => by
      by_contra hk
      exact hc ⟨k, fun j hj e => hk (Finset.mem_image.mpr ⟨j, Finset.mem_range.mpr hj, e⟩)⟩
    have h1 := (Finset.card_le_card hsub).trans Finset.card_image_le
    rw [Finset.card_univ, Fintype.card_fin, Finset.card_range] at h1
    omega
  have hself : ∀ j < q, seq L b v j ≠ seq L b v q := by
    intro j hj e
    obtain ⟨k, hk⟩ := hfree
    have h1 := hpk.1 k
    rw [(struck_apply hb q k).2 hk, (struck_apply hb q _).1 ⟨j, hj, e⟩] at h1
    exact absurd (hL k) (not_lt.mpr h1)
  have hs := (struck_apply hb q _).2 hself
  refine ⟨hself, fun p hp => ⟨?_, fun hlt => ?_⟩⟩
  · have h := hpk.1 p
    rwa [(struck_apply hb q p).2 hp, hs] at h
  · have h := hpk.2 p hlt
    rwa [(struck_apply hb q p).2 hp, hs] at h

/-- THE PICKS ARE THE SORT: the position that round `i` picks is the one that the stable sort by descending entry (that
    is, by ascending negated entry) puts at place `i`. -/
theorem sortedFrom_eq_seq (hb : ∀ k : Fin n, pos k ≤ b) (hL : ∀ k, L < v k) (i : Fin n) :
    sortedFrom (fun k k' => decide (-v k < -v k')) i = seq L b v i.val := by
  classical
  have hB := StrictTotalBefore.of_key_then_position (fun a c : EReal => decide (c < a)) v (by simp)
    (fun a c d h h' => by simp only [decide_eq_true_eq] at h h' ⊢; exact h'.trans h)
    (fun a c => by
      rcases lt_trichotomy a c with h | h | h
      · exact Or.inr (Or.inr (by simpa using h))
      · exact Or.inr (Or.inl h)
      · exact Or.inl (by simpa using h))
  have hcongr := sortedFrom_congr (fun k k' => decide (-v k < -v k'))
    (fun k k' : Fin n => decide (v k' < v k) || (decide (v k = v k') && decide (k < k')))
    (fun a c hac => by simp [EReal.neg_lt_neg_iff, not_lt.mpr hac.le]) i
  have hdom : ∀ (q : Fin n) (p : Fin n), (∀ j < q.val, seq L b v j ≠ p) →
      (decide (v (seq L b v q.val) < v p) || (decide (v p = v (seq L b v q.val)) && decide (p < seq L b v q.val))) = false := by
    intro q p hp
    obtain ⟨h1, h2⟩ := (seq_dominates hb hL q.val q.isLt).2 p hp
    simp only [Bool.or_eq_false_iff, Bool.and_eq_false_iff, decide_eq_false_iff_not]
    refine ⟨not_lt.mpr h1, ?_⟩
    by_cases hlt : p < seq L b v q.val
    · exact Or.inl (ne_of_lt (h2 hlt))
    · exact Or.inr hlt
  have hne : ∀ i j : Fin n, i < j → seq L b v i.val ≠ seq L b v j.val := fun i j hij =>
    (seq_dominates hb hL j.val j.isLt).1 i.val hij
  rw [hcongr]
  have hinj : Function.Injective fun q : Fin n => seq L b v q.val := fun i j e => by
    rcases lt_trichotomy i j with h | h | h
    · exact absurd e (hne i j h)
    · exact h
    · exact absurd e.symm (hne j i h)
  exact hB.sortedFrom_eq_of_prefix le_rfl (fun q : Fin n => seq L b v q.val) hinj
    (fun i j hij => hdom i _ fun j' hj' e => by
      have := congrArg Fin.val (hinj (a₁ := ⟨j', hj'.trans i.isLt⟩) (a₂ := j) e)
      have hij' : i.val < j.val := hij
      simp only at this
      omega)
    (fun i p hp => hdom i p fun j hj => hp ⟨j, hj.trans i.isLt⟩) i

end Row

end Cert.Miner

end
-- ==== Proof.Score.lean ====
/-
  The numbers the miner ranks: rows divided by their norms, their products, and the score of a pair of rows.

  A normalized entry is a real number between -1 and 1 whatever the row holds (an infinite entry makes the norm infinite
  and the quotient 0), so a product of two normalized rows of 64 entries lies between -64 and 64 and every score lies
  above the value the miner overwrites picked positions with.
-/
module

public import proofs.«01_k».proof.Proof.Pick
public import Idealize.ShloMosaic.PureOps.Ideal
public import Mathlib.Data.EReal.Inv
public import Mathlib.Tactic.Positivity
public import Mathlib.Tactic.Linarith
public import Mathlib.Tactic.NormNum

@[expose] public section

noncomputable section

namespace Cert.Miner

open Idealize.ShloMosaic

/-! ## The literals -/

/-- The floor of a norm, the single-precision number nearest to 10⁻¹². -/
def eps : EReal := Ideal.ofBits .f32 0x2B8CBCCC#32
/-- The score of a pair that is not semi-hard. -/
def masked : EReal := Ideal.ofBits .f32 0xC1200000#32
/-- The value that overwrites a picked position. -/
def low : EReal := Ideal.ofBits .f32 0xCE6E6B28#32
/-- The number of columns. -/
def width : EReal := Ideal.ofBits .f32 0x45800000#32

/-- The floor of a norm is a positive real number. -/
theorem eps_eq : ∃ e : ℝ, 0 < e ∧ eps = (e : EReal) := by
  refine ⟨9223372 * (2 : ℝ) ^ (-63 : ℤ), by positivity, ?_⟩
  simp [eps, Ideal.ofBits, Ideal.ieee]

/-- The score of a pair that is not semi-hard is -10. -/
theorem masked_eq : masked = ((-10 : ℝ) : EReal) := by
  simp [masked, Ideal.ofBits, Ideal.ieee, -EReal.coe_mul, -EReal.coe_neg]; norm_num

/-- The overwriting value is -10⁹. -/
theorem low_eq : low = ((-1000000000 : ℝ) : EReal) := by
  simp [low, Ideal.ofBits, Ideal.ieee, -EReal.coe_mul, -EReal.coe_neg]; norm_num

/-- The number of columns is 4096. -/
theorem width_eq : width = ((4096 : ℝ) : EReal) := by
  simp [width, Ideal.ofBits, Ideal.ieee, -EReal.coe_mul, -EReal.coe_neg]; norm_num

/-- Every column lies below the number of columns. -/
theorem pos_le_width (k : Fin 4096) : pos k ≤ width := by
  rw [width_eq, pos, EReal.coe_le_coe_iff]
  exact_mod_cast k.isLt.le

/-! ## Normalized rows -/

variable {n d : ℕ}

/-- Entry `(i, j)` of `x` divided by the norm of row `i`, the norm kept at or above `eps`. -/
def nrm (x : Fin n → Fin d → EReal) (i : Fin n) (j : Fin d) : EReal :=
  Ideal.div (x i j) (max (Ideal.sqrt (∑ k, x i k * x i k)) eps)

/-- A square is not negative, infinite values included. -/
theorem mul_self_nonneg' (a : EReal) : 0 ≤ a * a := by
  induction a with
  | bot => simp
  | top => simp
  | coe r => rw [← EReal.coe_mul]; exact_mod_cast mul_self_nonneg r

/-- A normalized entry is a real number between -1 and 1. -/
theorem nrm_real (x : Fin n → Fin d → EReal) (i : Fin n) (j : Fin d) : ∃ r : ℝ, nrm x i j = (r : EReal) ∧ |r| ≤ 1 := by
  obtain ⟨e, he, hee⟩ := eps_eq
  have hle : x i j * x i j ≤ ∑ k, x i k * x i k :=
    Finset.single_le_sum (f := fun k => x i k * x i k) (fun k _ => mul_self_nonneg' _) (Finset.mem_univ j)
  have hnn : 0 ≤ ∑ k, x i k * x i k := Finset.sum_nonneg fun k _ => mul_self_nonneg' _
  unfold nrm
  generalize (∑ k, x i k * x i k) = s at hle hnn
  rw [hee]
  induction s with
  | bot => simp at hnn
  | top =>
    refine ⟨0, ?_, by simp⟩
    simp [Ideal.div]
  | coe s =>
    have hs : 0 ≤ s := by exact_mod_cast hnn
    generalize x i j = a at hle
    induction a with
    | bot => simp at hle
    | top => simp at hle
    | coe a =>
      rw [← EReal.coe_mul] at hle
      have has : a * a ≤ s := by exact_mod_cast hle
      have hD : 0 < max (Real.sqrt s) e := lt_max_of_lt_right he
      have ha : |a| ≤ max (Real.sqrt s) e := by
        refine le_trans ?_ (le_max_left _ _)
        exact Real.abs_le_sqrt (by rw [sq]; exact has)
      refine ⟨a * (1 / max (Real.sqrt s) e), ?_, ?_⟩
      · rw [Ideal.sqrt_coe, if_neg (not_lt.mpr hs), ← EReal.coe_strictMono.monotone.map_max, Ideal.div_coe hD.ne', EReal.coe_mul]
      · rw [abs_mul, abs_of_pos (one_div_pos.mpr hD), mul_one_div]
        exact (div_le_one hD).mpr ha

/-- The product of row `i` of `a` and row `j` of `p`. -/
def sim {n' : ℕ} (a : Fin n → Fin d → EReal) (p : Fin n' → Fin d → EReal) (i : Fin n) (j : Fin n') : EReal :=
  ∑ k, a i k * p j k

/-- The product of two normalized rows is a real number, at most the rows' length in absolute value. -/
theorem sim_real {n' : ℕ} (x : Fin n → Fin d → EReal) (y : Fin n' → Fin d → EReal) (i : Fin n) (j : Fin n') :
    ∃ r : ℝ, sim (nrm x) (nrm y) i j = (r : EReal) ∧ |r| ≤ d := by
  choose f hf hf1 using nrm_real x i
  choose g hg hg1 using nrm_real y j
  refine ⟨∑ k, f k * g k, ?_, ?_⟩
  · unfold sim
    simp only [hf, hg, ← EReal.coe_mul]
    exact (map_sum (⟨⟨Real.toEReal, EReal.coe_zero⟩, EReal.coe_add⟩ : ℝ →+ EReal) _ _).symm
  · refine (Finset.abs_sum_le_sum_abs _ _).trans ?_
    calc ∑ k, |f k * g k| ≤ ∑ _k : Fin d, (1 : ℝ) := Finset.sum_le_sum fun k _ => by
          rw [abs_mul]; exact mul_le_one₀ (hf1 k) (abs_nonneg _) (hg1 k)
      _ = d := by simp

/-! ## The score -/

/-- The score of the pair `(i, j)`: the rows' product where it is smaller than row `i`'s product with its own partner,
    the masked value elsewhere. -/
def score (a p : Fin n → Fin d → EReal) (i j : Fin n) : EReal :=
  if 0 < sim a p i i - sim a p i j then sim a p i j else masked

/-- Every score of normalized rows of 64 entries is above the overwriting value. -/
theorem low_lt_score (x y : Fin n → Fin 64 → EReal) (i j : Fin n) : low < score (nrm x) (nrm y) i j := by
  unfold score
  split
  · obtain ⟨r, hr, hr'⟩ := sim_real x y i j
    rw [hr, low_eq, EReal.coe_lt_coe_iff]
    have := (abs_le.mp hr').1
    push_cast at this
    linarith
  · rw [low_eq, masked_eq, EReal.coe_lt_coe_iff]
    norm_num

/-- The score with the row's own partner replaced by another value `z` first and zero added to the difference: the same,
    since the partner's difference from itself is zero and never makes the pair semi-hard. -/
theorem score_eq (x y : Fin n → Fin d → EReal) (z : EReal) (i j : Fin n) :
    (if 0 < sim (nrm x) (nrm y) i i - sim (nrm x) (nrm y) i j + 0 then (if i = j then z else sim (nrm x) (nrm y) i j) else masked)
      = score (nrm x) (nrm y) i j := by
  unfold score
  rw [add_zero]
  by_cases hij : i = j
  · subst hij
    obtain ⟨r, hr, -⟩ := sim_real x y i i
    have h0 : ¬ (0 : EReal) < sim (nrm x) (nrm y) i i - sim (nrm x) (nrm y) i i := by
      rw [hr, ← EReal.coe_sub, sub_self]
      exact lt_irrefl _
    rw [if_neg h0, if_neg h0]
  · rw [if_neg hij]

end Cert.Miner

end
-- ==== Proof.Block.lean ====
/-
  What the kernel computes on one block: 1024 rows against all 4096 columns.

  The body's payloads are one round written out seven times: `idxOf V` is the column of the first largest entry of every
  row, `strikeAt V I` overwrites that column. Read at a row they are `rowIdx` and `strike` of the row, so the seven index
  columns are the seven picks of `seq`.
-/
module

public import proofs.«01_k».proof.Proof.Pick
public import proofs.«01_k».proof.Proof.Score
public import proofs.«01_k».proof.Proof.Gen.KernelIdeal.Frame
public import Idealize.ShloMosaic.Lib.Pointwise
public import Idealize.ShloMosaic.Lib.WordCmp
public import Idealize.ShloMosaic.Lib.Pipeline.Value

@[expose] public section

set_option maxRecDepth 16384

noncomputable section

namespace Cert.KernelIdeal.Block

open Cert.KernelIdeal Cert.KernelIdeal.Gen Cert.Miner Idealize.ShloMosaic

/-! ## One round, on vectors -/

/-- The column of the first largest entry of every row, as the body writes it. -/
def idxOf (V : FVec Ideal S1024x4096 .f32) : FVec Ideal S1024x1 .f32 :=
  shapeCast S1024x1
    (multiReduction .minimumf [1] S1024
      (select
        (cmpf .oeq V
          (broadcastTo S1024x4096
            (shapeCast S1024x1 (multiReduction .maximumf [1] S1024 V 0xFF800000#32 reduces_S1024x4096_S1024 (.inl rfl) rfl)
              shapeCasts_S1024_S1024x1)
            broadcasts_S1024x1_S1024x4096))
        (k0_pay2 (F := Ideal)) (broadcast S1024x4096 (Scalar.ofBits .f32 0x45800000#32)))
      0x7F800000#32 reduces_S1024x4096_S1024 (.inl rfl) rfl)
    shapeCasts_S1024_S1024x1

/-- The vector with the column `I` of every row overwritten, as the body writes it. -/
def strikeAt (V : FVec Ideal S1024x4096 .f32) (I : FVec Ideal S1024x1 .f32) : FVec Ideal S1024x4096 .f32 :=
  select (cmpf .oeq (k0_pay2 (F := Ideal)) (broadcastTo S1024x4096 I broadcasts_S1024x1_S1024x4096))
    (broadcast S1024x4096 (Scalar.ofBits .f32 0xCE6E6B28#32)) V

/-- Row `r` of a block. -/
def row (V : FVec Ideal S1024x4096 .f32) (r : Fin 1024) : Fin 4096 → EReal := fun k => V (ix2 r k)

/-- The column vector holds the column. -/
theorem pay2_apply (r : Fin 1024) (k : Fin 4096) : k0_pay2 (F := Ideal) (ix2 r k) = pos k := by
  pointwise [k0_pay2]
  show (((BitVec.ofNat 32 k.val).toInt : ℝ) : EReal) = pos k
  have h : (BitVec.ofNat 32 k.val).toInt = (k.val : ℤ) := by
    have hk := k.isLt
    rw [BitVec.toInt_eq_toNat_of_lt] <;> rw [BitVec.toNat_ofNat, Nat.mod_eq_of_lt] <;> omega
  rw [h]
  simp [pos]

/-- The least-position reduction starts at plus infinity, -/
theorem top_eq : Ideal.ofBits .f32 0x7F800000#32 = ⊤ := by simp [Ideal.ofBits, Ideal.ieee]
/-- the largest-entry reduction at minus infinity. -/
theorem bot_eq : Ideal.ofBits .f32 0xFF800000#32 = ⊥ := by simp [Ideal.ofBits, Ideal.ieee]

/-- A round's index column, at a row. -/
theorem idxOf_apply (V : FVec Ideal S1024x4096 .f32) (r : Fin 1024) : idxOf V (ix2 r 0) = rowIdx width (row V r) := by
  pointwise [idxOf, rowIdx, rowMax, row]
  rw [top_eq, bot_eq]
  simp only [pay2_apply]
  rfl

/-- A round's overwritten vector, at a row. -/
theorem strikeAt_apply (V : FVec Ideal S1024x4096 .f32) (I : FVec Ideal S1024x1 .f32) (r : Fin 1024) :
    row (strikeAt V I) r = strike low (I (ix2 r 0)) (row V r) := by
  funext k
  unfold row strike
  pointwise [strikeAt]
  rw [pay2_apply]
  rfl

/-! ## The rounds -/

/-- The block after `q` rounds. -/
def rounds (V : FVec Ideal S1024x4096 .f32) : ℕ → FVec Ideal S1024x4096 .f32
  | 0 => V
  | q + 1 => strikeAt (rounds V q) (idxOf (rounds V q))

/-- Row `r` of the block after `q` rounds is the row after `q` rounds. -/
theorem row_rounds (V : FVec Ideal S1024x4096 .f32) (r : Fin 1024) (q : ℕ) :
    row (rounds V q) r = struck low width (row V r) q := by
  induction q with
  | zero => rfl
  | succ q ih => rw [rounds, strikeAt_apply, idxOf_apply, ih, struck]

/-- The index column of round `q` holds the round's pick. -/
theorem idxOf_rounds (V : FVec Ideal S1024x4096 .f32) (r : Fin 1024) (q : ℕ) :
    idxOf (rounds V q) (ix2 r 0) = pos (seq low width (row V r) q) := by
  rw [idxOf_apply, row_rounds, rowIdx_struck pos_le_width]

/-- A column converted to a word. -/
theorem fptosi_pos (k : Fin 4096) : Ideal.fptosi 32 (pos k) = BitVec.ofNat 32 k.val := by
  have hk := k.isLt
  rw [Ideal.fptosi, pos, Ideal.toIntClamped_coe, if_pos (by positivity), Int.floor_natCast]
  rw [min_eq_right (by norm_num; omega), max_eq_right (by norm_num)]
  exact BitVec.ofInt_natCast _ _

/-! ## The body's result -/

/-- The score vector that the body computes from its three loads. -/
abbrev sc (x0 : Vec Ideal S1024x64 .f32) (x1 : Vec Ideal S4096x64 .f32) (x2 : Vec Ideal S1024x64 .f32) :
    FVec Ideal S1024x4096 .f32 := k0_pay3 x0 x1 x2

/-- The score vector at an index: the row's product with the column's row of `x1` where the row's product with its own
    row of `x2` exceeds it, the masked value elsewhere. -/
theorem sc_apply (x0 : Vec Ideal S1024x64 .f32) (x1 : Vec Ideal S4096x64 .f32) (x2 : Vec Ideal S1024x64 .f32)
    (r : Fin 1024) (k : Fin 4096) :
    sc x0 x1 x2 (ix2 r k)
      = if 0 < (∑ l : Fin 64, x0 (ix2 r l) * x2 (ix2 r l)) - ∑ l : Fin 64, x0 (ix2 r l) * x1 (ix2 k l)
        then ∑ l : Fin 64, x0 (ix2 r l) * x1 (ix2 k l) else masked := by
  have hdiag : (∑ x : Fin 1024, Scalar.select (IntOp.cmpi .eq (BitVec.ofNat 32 x.val) (BitVec.ofNat 32 r.val))
      (∑ l : Fin 64, x0 (ix2 r l) * x2 (ix2 x l)) (0 : EReal)) = ∑ l : Fin 64, x0 (ix2 r l) * x2 (ix2 r l) := by
    have h : ∀ x : Fin 1024, Scalar.select (IntOp.cmpi .eq (BitVec.ofNat 32 x.val) (BitVec.ofNat 32 r.val))
        (∑ l : Fin 64, x0 (ix2 r l) * x2 (ix2 x l)) (0 : EReal)
          = if x = r then ∑ l : Fin 64, x0 (ix2 r l) * x2 (ix2 x l) else 0 := fun x => by
      have hx := x.isLt
      have hr := r.isLt
      have e : IntOp.cmpi .eq (BitVec.ofNat 32 x.val) (BitVec.ofNat 32 r.val) = 1#1 ↔ x = r := by
        rw [WordCmp.cmpi_eq_ofNat_eq_one_iff (by omega) (by omega), Fin.ext_iff]
      by_cases hxr : x = r
      · exact (if_pos (e.mpr hxr)).trans (if_pos hxr).symm
      · exact (if_neg fun h => hxr (e.mp h)).trans (if_neg hxr).symm
    rw [Finset.sum_congr rfl fun x _ => h x, Finset.sum_ite_eq' Finset.univ r, if_pos (Finset.mem_univ _)]
  unfold sc
  pointwise [k0_pay3]
  rw [hdiag]
  rfl

/-- The seven index columns. -/
def cols (V : FVec Ideal S1024x4096 .f32) (q : Fin 7) : S1024x1.Idx → EReal := idxOf (rounds V q.val)

/-- The stored payload is the seven rounds' index columns side by side, converted to words. -/
theorem pay1_eq (x0 : Vec Ideal S1024x64 .f32) (x1 : Vec Ideal S4096x64 .f32) (x2 : Vec Ideal S1024x64 .f32) :
    k0_pay1 k0_pay2 (k0_pay4 x0 x1 x2) (k0_pay7 (k0_pay6 x0 x1 x2))
        (k0_pay9 k0_pay2 (k0_pay5 x0 x1 x2) (k0_pay6 x0 x1 x2)) (k0_pay11 k0_pay2 (k0_pay5 x0 x1 x2) (k0_pay6 x0 x1 x2))
        (k0_pay13 k0_pay2 (k0_pay5 x0 x1 x2) (k0_pay6 x0 x1 x2)) (k0_pay14 k0_pay2 (k0_pay5 x0 x1 x2) (k0_pay6 x0 x1 x2))
        (k0_pay15 k0_pay2 (k0_pay5 x0 x1 x2) (k0_pay6 x0 x1 x2))
      = fptosi (F := Ideal) (φ := .f32) 32 (concatenate S1024x7 1
          (List.ofFn fun q : Fin 7 => (⟨S1024x1, cols (sc x0 x1 x2) q⟩ : (s : Shape) × (s.Idx → EReal)))
          concatenates_S1024x1_S1024x1_S1024x1_S1024x1_S1024x1_S1024x1_S1024x1_S1024x7_d1) := by
  rfl

/-- The offsets of the whole-buffer accesses are all zero. -/
theorem hz : (![0, 0] : Fin 2 → Nat) = fun _ => 0 := funext fun a => by fin_cases a <;> rfl

/-- What the body leaves in its result buffer: at row `r` and place `q`, the pick of round `q` on row `r` of the scores. -/
theorem out_apply (x0 : Vec Ideal S1024x64 .f32) (x1 : Vec Ideal S4096x64 .f32) (x2 : Vec Ideal S1024x64 .f32)
    (r : Fin 1024) (q : Fin 7) :
    out0_3 x0 x1 x2 (ix2 r q) = BitVec.ofNat 32 (seq low width (row (sc x0 x1 x2) r) q.val).val := by
  unfold out0_3 k0_pay18 k0_pay17 k0_pay16
  rw [View.canon_unit_zero hz, View.ld_unit_zero hz, View.ld_unit_zero hz, View.ld_unit_zero hz]
  rw [pay1_eq, fptosi_apply]
  refine (congrArg (Ideal.fptosi 32) (concatenate_ofFn_apply (t := S1024x7) (s₁ := S1024x1) (1 : Fin 2) (cols (sc x0 x1 x2)) _ rfl 1 rfl (ix2 r q) q
    (Nat.div_one _) (ix2 r 0) (by show 0 = q.val % 1; omega)
    (fun b hb => by
      match b with
      | ⟨0, _⟩ => rfl
      | ⟨1, _⟩ => exact absurd rfl hb))).trans ?_
  show Ideal.fptosi 32 (idxOf (rounds (sc x0 x1 x2) q.val) (ix2 r 0)) = _
  rw [idxOf_rounds, fptosi_pos]

end Cert.KernelIdeal.Block

end
-- ==== Proof.Array.lean ====
/-
  What the kernel's result array holds after the run: at `(i, q)` the column that round `q` picks on row `i` of the scores
  of the two normalized arguments. Grid point `t` writes rows `1024 t` to `1024 t + 1023`, so the four blocks tile it.
-/
module

public import proofs.«01_k».proof.Proof.Block

@[expose] public section

set_option maxRecDepth 16384

noncomputable section

namespace Cert.KernelIdeal.Array

open Cert.KernelIdeal Cert.KernelIdeal.Gen Cert.KernelIdeal.Block Cert.Miner
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A [4096, 64] array as a table of rows. -/
def tab (x : FVec Ideal S4096x64 .f32) (i : Fin 4096) (j : Fin 64) : EReal := x (ix2 i j)

/-- The host's normalization of an array, as @main writes it. -/
def hostNorm (x : FVec Ideal S4096x64 .f32) : FVec Ideal S4096x64 .f32 :=
  Host.divf x (broadcastInDim S4096x64 ![0, 1] bcast_S4096x1_S4096x64_0_1
    (maximumf (Host.sqrt (broadcastInDim S4096x1 ![0] bcast_S4096_S4096x1_0
        (Host.reduceAdd (mulf x x) (constant S_ .f32 0x00000000#32) reducesTo_S4096x64_S4096_d1 h_S_)))
      (broadcastInDim S4096x1 ![] bcast_S_S4096x1 (constant S_ .f32 0x2B8CBCCC#32))))

/-- Read at an index it is the row's entry over the row's norm. -/
theorem hostNorm_apply (x : FVec Ideal S4096x64 .f32) (i : Fin 4096) (j : Fin 64) :
    hostNorm x (ix2 i j) = nrm (tab x) i j := by
  unfold nrm tab
  pointwise [hostNorm]
  rfl

/-- The region finds the first array normalized in `main_v7`, -/
theorem V_v7 (c : Dev nD) : V m c main_v7 = hostNorm (m ((c : Thread nD τ).loc main_arg0)) := by
  unfold V
  after_results_simp <;> rfl

/-- and the second in `main_v15`. -/
theorem V_v15 (c : Dev nD) : V m c main_v15 = hostNorm (m ((c : Thread nD τ).loc main_arg1)) := by
  unfold V
  after_results_simp <;> rfl

/-! ## The blocks -/

/-- The first normalized argument on device `c`, as a table. -/
abbrev an (c : Dev nD) : Fin 4096 → Fin 64 → EReal := nrm (tab (m ((c : Thread nD τ).loc main_arg0)))
/-- The second. -/
abbrev pn (c : Dev nD) : Fin 4096 → Fin 64 → EReal := nrm (tab (m ((c : Thread nD τ).loc main_arg1)))

/-- Row `r` of block `t` in the array. -/
def grow (t : Fin cfg0.N) (r : Fin 1024) : Fin 4096 :=
  ⟨t.val * 1024 + r.val, by have ht : t.val < 4 := t.isLt.trans_eq N_0; have hr := r.isLt; omega⟩

/-- Where the blocks lie: window 1 stages its whole array, the others move down by one block a point. -/
theorem idx (t : Fin cfg0.N) :
    (win0_0.index t 0 = t.val ∧ win0_0.index t 1 = 0) ∧ (win0_1.index t 0 = 0 ∧ win0_1.index t 1 = 0)
      ∧ (win0_2.index t 0 = t.val ∧ win0_2.index t 1 = 0) ∧ (win0_3.index t 0 = t.val ∧ win0_3.index t 1 = 0) := by
  rcases fin_N0 t with rfl | rfl | rfl | rfl <;> decide +kernel

/-- Where an entry of window 0's block lies in its array: the same column, the block's row, -/
theorem emb0 (t : Fin cfg0.N) (r : Fin 1024) (l : Fin 64) :
    ((win0_0.rect t).emb (ix2 r l) : S4096x64.Idx) = ix2 (grow t r) l := by
  funext a
  apply Fin.ext
  refine (Pipeline.Window.rect_emb_val win0_0 t _ a).trans ?_
  match a with
  | ⟨0, _⟩ => exact congrArg (· * 1024 + r.val) (idx t).1.1
  | ⟨1, _⟩ => exact (congrArg (· * 64 + l.val) (idx t).1.2).trans (by simp)

/-- of window 1's: the same place, -/
theorem emb1 (t : Fin cfg0.N) (k : Fin 4096) (l : Fin 64) :
    ((win0_1.rect t).emb (ix2 k l) : S4096x64.Idx) = ix2 k l := by
  funext a
  apply Fin.ext
  refine (Pipeline.Window.rect_emb_val win0_1 t _ a).trans ?_
  match a with
  | ⟨0, _⟩ => exact (congrArg (· * 4096 + k.val) (idx t).2.1.1).trans (by simp)
  | ⟨1, _⟩ => exact (congrArg (· * 64 + l.val) (idx t).2.1.2).trans (by simp)

/-- of window 2's: the same column, the block's row, -/
theorem emb2 (t : Fin cfg0.N) (r : Fin 1024) (l : Fin 64) :
    ((win0_2.rect t).emb (ix2 r l) : S4096x64.Idx) = ix2 (grow t r) l := by
  funext a
  apply Fin.ext
  refine (Pipeline.Window.rect_emb_val win0_2 t _ a).trans ?_
  match a with
  | ⟨0, _⟩ => exact congrArg (· * 1024 + r.val) (idx t).2.2.1.1
  | ⟨1, _⟩ => exact (congrArg (· * 64 + l.val) (idx t).2.2.1.2).trans (by simp)

/-- and of the result's: the same column, the block's row. -/
theorem emb3 (t : Fin cfg0.N) (r : Fin 1024) (q : Fin 7) :
    ((win0_3.rect t).emb (ix2 r q) : S4096x7.Idx) = ix2 (grow t r) q := by
  funext a
  apply Fin.ext
  refine (Pipeline.Window.rect_emb_val win0_3 t _ a).trans ?_
  match a with
  | ⟨0, _⟩ => exact congrArg (· * 1024 + r.val) (idx t).2.2.2.1
  | ⟨1, _⟩ => exact (congrArg (· * 7 + q.val) (idx t).2.2.2.2).trans (by simp)

/-- Window 0's block: the block's rows of the first normalized argument, -/
theorem iblk0_apply (c : Dev nD) (t : Fin cfg0.N) (r : Fin 1024) (l : Fin 64) :
    (iblk m c 0 t : S1024x64.Idx → EReal) (ix2 r l) = an m c (grow t r) l := by
  show V m c main_v7 ((win0_0.rect t).emb (ix2 r l)) = _
  rw [V_v7]
  exact (congrArg _ (emb0 t r l)).trans (hostNorm_apply _ _ _)

/-- window 1's: the whole second normalized argument, -/
theorem iblk1_apply (c : Dev nD) (t : Fin cfg0.N) (k : Fin 4096) (l : Fin 64) :
    (iblk m c 1 t : S4096x64.Idx → EReal) (ix2 k l) = pn m c k l := by
  show V m c main_v15 ((win0_1.rect t).emb (ix2 k l)) = _
  rw [V_v15]
  exact (congrArg _ (emb1 t k l)).trans (hostNorm_apply _ _ _)

/-- window 2's: the block's rows of it. -/
theorem iblk2_apply (c : Dev nD) (t : Fin cfg0.N) (r : Fin 1024) (l : Fin 64) :
    (iblk m c 2 t : S1024x64.Idx → EReal) (ix2 r l) = pn m c (grow t r) l := by
  show V m c main_v15 ((win0_2.rect t).emb (ix2 r l)) = _
  rw [V_v15]
  exact (congrArg _ (emb2 t r l)).trans (hostNorm_apply _ _ _)

/-- The block's score vector at row `r` is row `grow t r` of the scores. -/
theorem row_sc (c : Dev nD) (t : Fin cfg0.N) (r : Fin 1024) :
    row (sc (iblk m c 0 t) (iblk m c 1 t) (iblk m c 2 t)) r = score (an m c) (pn m c) (grow t r) := by
  funext k
  unfold row
  rw [sc_apply]
  simp only [iblk0_apply, iblk1_apply, iblk2_apply]
  rfl

/-! ## The array -/

/-- What the result array holds: the picks of the seven rounds on every row of the scores, as words. -/
def mined (c : Dev nD) : Buf (Elt Ideal) ((c : Thread nD τ).loc main_v16) := fun i : S4096x7.Idx =>
  BitVec.ofNat 32 (seq low width (score (an m c) (pn m c) (i 0)) (i 1).val).val

/-- What point `t` writes back is its block of that array. -/
theorem flushed_eq (c : Dev nD) (t : Fin cfg0.N) :
    (dats m 0 c).flushed 3 t = (win0_3.blk t).view.read (Elt Ideal) (mined m c) := by
  show (cfg0.win 3).cut (grid0.coords t) ((dats m 0 c).after 3 t) = _
  rw [after0_3]
  funext y
  obtain ⟨r, q, rfl⟩ : ∃ (r : Fin 1024) (q : Fin 7), y = ix2 r q := ⟨y 0, y 1, by funext a; match a with | ⟨0, _⟩ => rfl | ⟨1, _⟩ => rfl⟩
  show out0_3 (iblk m c 0 t) (iblk m c 1 t) (iblk m c 2 t) (ix2 r q) = mined m c ((win0_3.rect t).emb (ix2 r q))
  rw [out_apply, row_sc]
  exact (congrArg (mined m c) (emb3 t r q)).symm

/-- Which indices of the array are in point `t`'s block. -/
theorem mem_blk (t : Fin cfg0.N) (i : S4096x7.Idx) :
    i ∈ ((cfg0.win 3).blk t).view.set ↔ t.val * 1024 ≤ (i 0 : Nat) ∧ (i 0 : Nat) < t.val * 1024 + 1024 := by
  show i ∈ ((View.whole main_v16).slice (win0_3.rect t)).set ↔ _
  rw [View.set_slice_whole, Rect.mem_set_unit]
  have h1 : (i 1 : Nat) < 7 := (i 1).isLt
  have e : win0_3.index t 0 * win0_3.size 0 = t.val * 1024 ∧ win0_3.xsize (grid0.coords t) 0 = 1024
      ∧ win0_3.index t 1 * win0_3.size 1 = 0 ∧ win0_3.xsize (grid0.coords t) 1 = 7 := by
    rcases fin_N0 t with rfl | rfl | rfl | rfl <;> decide +kernel
  refine ⟨fun h => ?_, fun h a => ?_⟩
  · have : win0_3.index t 0 * win0_3.size 0 ≤ (i 0 : Nat)
        ∧ (i 0 : Nat) < win0_3.index t 0 * win0_3.size 0 + win0_3.xsize (grid0.coords t) 0 := h 0
    rwa [e.1, e.2.1] at this
  · match a with
    | ⟨0, _⟩ =>
      show win0_3.index t 0 * win0_3.size 0 ≤ (i 0 : Nat)
        ∧ (i 0 : Nat) < win0_3.index t 0 * win0_3.size 0 + win0_3.xsize (grid0.coords t) 0
      rw [e.1, e.2.1]; exact h
    | ⟨1, _⟩ =>
      show win0_3.index t 1 * win0_3.size 1 ≤ (i 1 : Nat)
        ∧ (i 1 : Nat) < win0_3.index t 1 * win0_3.size 1 + win0_3.xsize (grid0.coords t) 1
      rw [e.2.2.1, e.2.2.2]; omega

/-- The blocks tile the array. -/
theorem cover (i : S4096x7.Idx) :
    ∃ t : Fin cfg0.N, (cfg0.win 3).flush t = true ∧ i ∈ ((cfg0.win 3).blk t).view.set := by
  have h0 : (i 0 : Nat) < 4096 := (i 0).isLt
  refine ⟨⟨(i 0 : Nat) / 1024, by show _ < grid0.N; rw [N_0]; omega⟩, flush0_3 _, ?_⟩
  rw [mem_blk]
  dsimp only
  omega

/-- The result array after the run. -/
theorem final (c : Dev nD) : (dats m 0 c).arrAt 3 cfg0.N = mined m c :=
  (dats m 0 c).arrAt_eq_of_cover 3 (mined m c) (fun t _ => flushed_eq m c t) cover

/-- THE RUN: every weakly fair execution ends with the result array at the picks and the arguments unchanged. -/
theorem run : θ_run defs (onTc (τ := τ) (main (F := Ideal))) ⟨m, fun _ => 0, ρ⟩ fun r => ∀ c : Dev nD,
      r.2.mem ((c : Thread nD τ).loc main_v16) = mined m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 3).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Array

end
-- ==== Proof.RefRead.lean ====
/-
  What the reference's result holds: at `(i, q)` the column that a stable sort of row `i` by descending score puts at
  place `q`.
-/
module

public import proofs.«01_k».proof.Proof.Pick
public import proofs.«01_k».proof.Proof.Score
public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Read

open Cert.ReferenceIdeal Cert.ReferenceIdeal.Gen Cert.Miner
open Idealize.ShloMosaic Idealize.ShloMosaic.TcCoe

/-! ## The terms of the result, named -/

/-- A [4096, 64] array as a table of rows. -/
def tab (x : FVec Ideal S4096x64 .f32) (i : Fin 4096) (j : Fin 64) : EReal := x (ix2 i j)

/-- The reference's normalization of an array. -/
def hostNorm (x : FVec Ideal S4096x64 .f32) : FVec Ideal S4096x64 .f32 :=
  Host.divf x (broadcastInDim S4096x64 ![0, 1] bcast_S4096x1_S4096x64_0_1
    (maximumf (Host.sqrt (broadcastInDim S4096x1 ![0] bcast_S4096_S4096x1_0
        (Host.reduceAdd (mulf x x) (constant S_ .f32 0x00000000#32) reducesTo_S4096x64_S4096_d1 h_S_)))
      (broadcastInDim S4096x1 ![] bcast_S_S4096x1 (constant S_ .f32 0x2B8CBCCC#32))))

/-- The products of all pairs of normalized rows. -/
def prods (x y : FVec Ideal S4096x64 .f32) : FVec Ideal S4096x4096 .f32 :=
  Host.dotGeneral dot_S4096x64_S64x4096_S4096x4096_1_0_0_1_n_n none (hostNorm x)
    (transpose S64x4096 [1, 0] (hostNorm y) transposes_S4096x64_S64x4096_1_0)

/-- The row number of every row, as one column of the gathered pairs. -/
def rowCol : IVec S4096x1 32 :=
  broadcastInDim S4096x1 ![0] bcast_S4096_S4096x1_0
    (select (cmpi .slt (iotaInDim S4096 32 0) (broadcastInDim S4096 ![] bcast_S_S4096 (constantI S_ 32 0#32)))
      (addi (iotaInDim S4096 32 0) (broadcastInDim S4096 ![] bcast_S_S4096 (constantI S_ 32 4096#32)))
      (iotaInDim S4096 32 0))

/-- The pairs `(i, i)` that the reference gathers. -/
def pairs : IVec S4096x2 32 :=
  concatenate S4096x2 1 [⟨S4096x1, rowCol⟩, ⟨S4096x1, rowCol⟩] concatenates_S4096x1_S4096x1_S4096x2_d1

/-- Every row's product with its own partner. -/
def partner (s : FVec Ideal S4096x4096 .f32) : FVec Ideal S4096 .f32 :=
  Host.gather gather_S4096x4096_S4096x2_S4096_n_01_n_n_01_1_11 s pairs

/-- The scores that the reference sorts, from the products. -/
def scores (s : FVec Ideal S4096x4096 .f32) : FVec Ideal S4096x4096 .f32 :=
  select
    (cmpf .ogt
      (addf
        (subf (broadcastInDim S4096x4096 ![0, 1] bcast_S4096x1_S4096x4096_0_1
            (broadcastInDim S4096x1 ![0] bcast_S4096_S4096x1_0 (partner s))) s)
        (broadcastInDim S4096x4096 ![] bcast_S_S4096x4096 (constant S_ .f32 0x00000000#32)))
      (broadcastInDim S4096x4096 ![] bcast_S_S4096x4096 (constant S_ .f32 0x00000000#32)))
    (select
      (noti (cmpi .eq
        (addi (iotaInDim S4096x4096 32 0) (broadcastInDim S4096x4096 ![] bcast_S_S4096x4096 (constantI S_ 32 0#32)))
        (iotaInDim S4096x4096 32 1)))
      s (broadcastInDim S4096x4096 ![] bcast_S_S4096x4096 (constant S_ .f32 0xC61C4000#32)))
    (broadcastInDim S4096x4096 ![] bcast_S_S4096x4096 (constant S_ .f32 0xC1200000#32))

/-- The columns of every row in the order of the sort. -/
def order (w : FVec Ideal S4096x4096 .f32) : IVec S4096x4096 32 :=
  (Host.sort2 S4096x4096 1 (comparator_f32_i32_d1 (F := Ideal)) (Host.negf w) (iotaInDim S4096x4096 32 1)).2

variable (m : (ℓ : Loc nD τ sig) → Buf (Elt Ideal) ℓ)

/-- The reference's result is the first seven columns of the order. -/
theorem res_eq (c : Dev nD) :
    Value.res_out0 m c = extractStridedSlice S4096x7 ![0, 0]
      (order (scores (prods (m ((c.tc : Thread nD τ).loc main_arg0)) (m ((c.tc : Thread nD τ).loc main_arg1)))))
      slices_S4096x4096_S4096x7_0_0 := rfl

/-! ## Read at an index -/

/-- A normalized entry: the row's entry over the row's norm. -/
theorem hostNorm_apply (x : FVec Ideal S4096x64 .f32) (i : Fin 4096) (j : Fin 64) :
    hostNorm x (ix2 i j) = nrm (tab x) i j := by
  unfold nrm tab
  pointwise [hostNorm]
  rfl

/-- An entry of the products. -/
theorem prods_apply (x y : FVec Ideal S4096x64 .f32) (i j : Fin 4096) :
    prods x y (ix2 i j) = sim (nrm (tab x)) (nrm (tab y)) i j := by
  unfold sim
  pointwise [prods]
  simp only [hostNorm_apply]

/-- No row number is negative, so the wrapped row number is the row number, -/
theorem rowCol_apply (i : Fin 4096) : rowCol (ix2 i 0) = BitVec.ofNat 32 i.val := by
  pointwise [rowCol]
  have h : IntOp.cmpi .slt (BitVec.ofNat 32 i.val) 0#32 = 0#1 := by
    have hi := i.isLt
    have e : IntOp.cmpi .slt (BitVec.ofNat 32 i.val) (BitVec.ofNat 32 0) = BitVec.ofBool (decide (i.val < 0)) :=
      WordCmp.cmpi_slt_ofNat (by omega) (by omega)
    exact e.trans (by simp)
  rw [h]
  rfl

/-- in both columns of the pairs. -/
theorem pairs_apply (i : Fin 4096) (a : Fin 2) : pairs (ix2 i a) = BitVec.ofNat 32 i.val := by
  unfold pairs
  pointwise
  match a with
  | ⟨0, _⟩ => exact rowCol_apply i
  | ⟨1, _⟩ => exact rowCol_apply i

/-- The gathered entry of row `i` is the diagonal's. -/
theorem partner_apply (s : FVec Ideal S4096x4096 .f32) (i : Fin 4096) : partner s (ix1 i) = s (ix2 i i) := by
  have hi := i.isLt
  have hp : (BitVec.ofNat 32 i.val).toInt.toNat = i.val := by
    rw [BitVec.toInt_eq_toNat_of_lt] <;> rw [BitVec.toNat_ofNat, Nat.mod_eq_of_lt] <;> omega
  unfold partner Host.gather
  congr 1
  funext a
  refine Fin.ext ?_
  show GatherDims.start _ _ _ a + GatherDims.batchCoord _ _ a + GatherDims.offCoord _ _ a = _
  have hmem : a ∈ ([0, 1] : List (Fin 2)) := by fin_cases a <;> decide
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos (show a ∈ gather_S4096x4096_S4096x2_S4096_n_01_n_n_01_1_11.startIndexMap from hmem)]
  match a with
  | ⟨0, _⟩ =>
    refine (congrArg (fun b : BitVec 32 => min b.toInt.toNat 4095) ((congrArg pairs ?_).trans (pairs_apply i 0))).trans ?_
    · funext b; refine Fin.ext ?_
      match b with
      | ⟨0, _⟩ => rfl
      | ⟨1, _⟩ => rfl
    · show min (BitVec.ofNat 32 i.val).toInt.toNat 4095 = i.val
      rw [hp]; omega
  | ⟨1, _⟩ =>
    refine (congrArg (fun b : BitVec 32 => min b.toInt.toNat 4095) ((congrArg pairs ?_).trans (pairs_apply i 1))).trans ?_
    · funext b; refine Fin.ext ?_
      match b with
      | ⟨0, _⟩ => rfl
      | ⟨1, _⟩ => rfl
    · show min (BitVec.ofNat 32 i.val).toInt.toNat 4095 = i.val
      rw [hp]; omega

/-- The scores at a pair of rows. -/
theorem scores_apply (x y : FVec Ideal S4096x64 .f32) (i j : Fin 4096) :
    scores (prods x y) (ix2 i j) = score (nrm (tab x)) (nrm (tab y)) i j := by
  rw [← score_eq (tab x) (tab y) (Ideal.ofBits .f32 0xC61C4000#32) i j]
  pointwise [scores]
  simp only [partner_apply, prods_apply]
  have hi := i.isLt
  have hj := j.isLt
  have e : IntOp.cmpi .eq (IntOp.addi (BitVec.ofNat 32 i.val) 0#32) (BitVec.ofNat 32 j.val)
      = BitVec.ofBool (decide (i = j)) := by
    show IntOp.cmpi .eq (BitVec.ofNat 32 i.val + 0#32) (BitVec.ofNat 32 j.val) = _
    rw [BitVec.add_zero, WordCmp.cmpi_eq_ofNat (by omega) (by omega)]
    simp only [Fin.ext_iff]
  rw [e]
  by_cases hij : i = j
  · simp only [hij, decide_true, if_true]; rfl
  · simp only [hij, decide_false, if_false]; rfl

/-- The order of the reference's sort, on keys: less than. -/
theorem comparator_apply (l r : EReal × BitVec 32) :
    comparator_f32_i32_d1 (F := Ideal) l r = BitVec.ofBool (decide (l.1 < r.1)) := by
  have h0 : ∀ a : EReal, (if a ≠ a then Ideal.ofBits .f32 0x7FC00000#32 else if a = 0 then 0 else a) = a := fun a => by
    rw [if_neg (fun h => h rfl)]
    split
    · next h => exact h.symm
    · rfl
  unfold comparator_f32_i32_d1
  simp only []
  pointwise
  rw [h0, h0]
  rfl

/-- Row `i` of the order, at place `q`. -/
theorem order_apply (w : FVec Ideal S4096x4096 .f32) (i q : Fin 4096) :
    order w (ix2 i q)
      = BitVec.ofNat 32 (sortedFrom (fun k k' : Fin 4096 => decide (-w (ix2 i k) < -w (ix2 i k'))) q).val := by
  have hal : ∀ k : Fin 4096, (ix2 i q : S4096x4096.Idx).along (1 : Fin 2) k = ix2 i k := fun k => by
    funext a
    match a with
    | ⟨0, _⟩ => rfl
    | ⟨1, _⟩ => rfl
  have hneg : ∀ k : Fin 4096, Host.negf w (ix2 i k) = -w (ix2 i k) := fun k => rfl
  unfold order Host.sort2
  rw [dif_pos (show 1 < S4096x4096.rank by decide)]
  show iotaInDim S4096x4096 32 1 ((ix2 i q : S4096x4096.Idx).along (1 : Fin 2) (sortedFrom (n := 4096) (fun k k' =>
    comparator_f32_i32_d1 (F := Ideal) (Host.negf w ((ix2 i q : S4096x4096.Idx).along (1 : Fin 2) k), _)
      (Host.negf w ((ix2 i q : S4096x4096.Idx).along (1 : Fin 2) k'), _) == 1#1) q)) = _
  simp only [comparator_apply, hal, hneg]
  have hb : ∀ p : Prop, ∀ _ : Decidable p, (BitVec.ofBool (decide p) == 1#1) = decide p := fun p _ => by
    by_cases h : p <;> simp [h]
  simp only [hb]
  rfl

/-- The reference's result at `(i, q)`. -/
theorem res_apply (c : Dev nD) (i : Fin 4096) (q : Fin 7) :
    (Value.res_out0 m c : S4096x7.Idx → BitVec 32) (ix2 i q)
      = BitVec.ofNat 32 (seq low width (score (nrm (tab (m ((c.tc : Thread nD τ).loc main_arg0))))
          (nrm (tab (m ((c.tc : Thread nD τ).loc main_arg1)))) i) q.val).val := by
  rw [res_eq]
  pointwise
  rw [order_apply]
  simp only [scores_apply]
  rw [sortedFrom_eq_seq pos_le_width (low_lt_score _ _ i)]

end Cert.ReferenceIdeal.Read

end
-- ==== Proof.lean ====
/-
  The proof of `Cert.Claim`: the three frames, the preservation of the ideal program, and the equation of the kernel's and
  the reference's results on the extended reals, from any memory.

    Proof/Pick.lean      the picks of the rounds are the prefix of a stable descending sort
    Proof/Score.lean     normalized rows, their products, the scores, and their bounds
    Proof/Block.lean     what the kernel's body computes on one block
    Proof/Array.lean     what the kernel's result array holds after the run
    Proof/RefRead.lean   what the reference's result holds
-/
module

public import proofs.«01_k».proof.Defs
public import proofs.«01_k».proof.Proof.Array
public import proofs.«01_k».proof.Proof.RefRead
public import proofs.«01_k».proof.Proof.Gen.Kernel
public import proofs.«01_k».proof.Proof.Gen.Kernel.Frame
public import Idealize.ShloMosaic.Lib.Quiescent

@[expose] public section

noncomputable section

namespace Cert.Proof

open Idealize.ShloMosaic Idealize.ShloMosaic.TcCoe Idealize.SL.Sem

/-- The kernel's run ends, leaves its arguments as they were and every semaphore counter at zero. -/
theorem frame_kernel : Cert.quiescent_Kernel := fun m ρ _ => Cert.Kernel.Gen.frame m ρ

/-- So does the ideal kernel's, -/
theorem frame_ideal : Cert.quiescent_KernelIdeal := fun m ρ _ => Cert.KernelIdeal.Gen.frame m ρ

/-- and the reference's, which declares no semaphore. -/
theorem frame_reference : Cert.quiescent_ReferenceIdeal := fun m ρ _ =>
  (θ_run Cert.ReferenceIdeal.defs _ _).mono (fun r h => ⟨fun c => ⟨(h c).2.1, (h c).2.2⟩,
      Idealize.ShloMosaic.sem_eq_zero_of_no_sems (by decide) r.2⟩)
    (Cert.ReferenceIdeal.Value.run (F := Ideal) m ρ)

/-- The ideal kernel rewrites nothing. -/
theorem preserves : Cert.preserves_Kernel_KernelIdeal := trivial

/-- The kernel's result is the reference's: from arguments that agree, both arrays hold at `(i, q)` the column that round
    `q` picks on row `i` of the scores. -/
theorem algebraic : Cert.algebraic_KernelIdeal_ReferenceIdeal := by
  intro m ρ m' ρ' _ hagree
  refine ⟨fun c => Cert.KernelIdeal.Array.mined m c, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  funext y
  obtain ⟨i, q, rfl⟩ : ∃ (i : Fin 4096) (q : Fin 7), y = ix2 i q :=
    ⟨y 0, y 1, by funext a; match a with | ⟨0, _⟩ => rfl | ⟨1, _⟩ => rfl⟩
  refine (Cert.ReferenceIdeal.Read.res_apply m' c i q).trans ?_
  rw [(hagree c).1, (hagree c).2]
  rfl

/-- All the claims, with the programs' own side conditions. -/
theorem claim : Cert.Claim := ⟨Cert.Kernel.Gen.facts, Cert.KernelIdeal.Gen.facts, Cert.ReferenceIdeal.Gen.facts,
  frame_kernel, frame_ideal, frame_reference, preserves, algebraic⟩

end Cert.Proof

end
